-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x1024 : Shape := ⟨3, ![2, 2048, 1024]⟩
abbrev S1024x1024 : Shape := ⟨2, ![1024, 1024]⟩
abbrev S1024 : Shape := ⟨1, ![1024]⟩
abbrev S2048x1024 : Shape := ⟨2, ![2048, 1024]⟩
abbrev S16x1024 : Shape := ⟨2, ![16, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  slices_S2048x1024_S1024x1024_0_0 : S2048x1024.Slices ![0, 0] S1024x1024

variable [Facts]

def fn {F : FTy → Type} [FloatOps F] (main_arg0 : FVec F S2x2048x1024 .f32) (main_arg1 : FVec F S1024x1024 .f32) (main_arg2 : FVec F S1024 .f32) (main_arg3 : FVec F S2048x1024 .f32) (main_arg4 : FVec F S1024 .f32) (main_arg5 : FVec F S16x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := (extractStridedSlice S1024x1024 ![0, 0] · slices_S2048x1024_S1024x1024_0_0) main_arg3
  let main_v10 : FVec F S1024x1024 .f32 := Host.absf main_v9
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_c_3 : IVec S_ 1 := constantI S_ 1 1#1
  let main_v13 : IVec S_ 1 := (fun x v => Host.reduce IntOp.andi x v reducesTo_S1024x1024_S_d0_1 h_S_) main_v12 main_c_3
  let main_v14 : IVec S_ 1 := andi main_v8 main_v13
  main_v14
-- ==== Kernel.lean ====
abbrev S2x2048x1024 : Shape := ⟨3, ![2, 2048, 1024]⟩
abbrev S1024x1024 : Shape := ⟨2, ![1024, 1024]⟩
abbrev S1024 : Shape := ⟨1, ![1024]⟩
abbrev S2048x1024 : Shape := ⟨2, ![2048, 1024]⟩
abbrev S16x1024 : Shape := ⟨2, ![16, 1024]⟩
abbrev S4096x1024 : Shape := ⟨2, ![4096, 1024]⟩
abbrev S1x1024 : Shape := ⟨2, ![1, 1024]⟩

abbrev nBuf : Space → Nat
  | .hbm => 11
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S2048x1024, .f32⟩
  | .hbm, ⟨4, _⟩ => ⟨S1024, .f32⟩
  | .hbm, ⟨5, _⟩ => ⟨S16x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S16x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S2048x1024 : Shape := ⟨2, ![2048, 1024]⟩
abbrev S16x1024 : Shape := ⟨2, ![16, 1024]⟩
abbrev S1x1x1024 : Shape := ⟨3, ![1, 1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S16 : Shape := ⟨1, ![16]⟩
abbrev S16x1 : Shape := ⟨2, ![16, 1]⟩
abbrev S4096x16 : Shape := ⟨2, ![4096, 16]⟩
abbrev S4096x16x1 : Shape := ⟨3, ![4096, 16, 1]⟩
abbrev S1 : Shape := ⟨1, ![1]⟩
abbrev S1x1x1 : Shape := ⟨3, ![1, 1, 1]⟩
abbrev S4096x16x1024 : Shape := ⟨3, ![4096, 16, 1024]⟩
abbrev S2x2048x2048 : Shape := ⟨3, ![2, 2048, 2048]⟩

abbrev nBuf : Space → Nat
  | .hbm => 69
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S2048x1024, .f32⟩
  | .hbm, ⟨4, _⟩ => ⟨S1024, .f32⟩
  | .hbm, ⟨5, _⟩ => ⟨S16x1024, .f32⟩
  | .hbm, ⟨6, _⟩ => ⟨S2x2048x1024, .f32⟩
  | .hbm, ⟨7, _⟩ => ⟨S1x1x1024, .f32⟩
  | .hbm, ⟨8, _⟩ => ⟨S2x2048x1024, .f32⟩
  | .hbm, ⟨9, _⟩ => ⟨S2x2048x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S16x1024, .f32⟩
  | .hbm, ⟨22, _⟩ => ⟨S_, .f32⟩
  | .hbm, ⟨23, _⟩ => ⟨S16, .f32⟩
  | .hbm, ⟨24, _⟩ => ⟨S16x1, .f32⟩
  | .hbm, ⟨25, _⟩ => ⟨S16x1, .f32⟩
  | .hbm, ⟨26, _⟩ => ⟨S_, .f32⟩
  | .hbm, ⟨27, _⟩ => ⟨S16x1, .f32⟩
  | .hbm, ⟨28, _⟩ => ⟨S16x1, .f32⟩
  | .hbm, ⟨29, _⟩ => ⟨S16x1024, .f32⟩
  | .hbm, ⟨30, _⟩ => ⟨S16x1024, .f32⟩
  | .hbm, ⟨31, _⟩ => ⟨S4096x16, .f32⟩
  | .hbm, ⟨32, _⟩ => ⟨S4096x16, .i32⟩
  | .hbm, ⟨33, _⟩ => ⟨S4096x16, .f32⟩
  | .hbm, ⟨34, _⟩ => ⟨S4096x16, .i32⟩
  | .hbm, ⟨35, _⟩ => ⟨S_, .i32⟩
  | .hbm, ⟨36, _⟩ => ⟨S4096x16, .i32⟩
  | .hbm, ⟨37, _⟩ => ⟨S4096x16, .i1⟩
  | .hbm, ⟨38, _⟩ => ⟨S_, .i32⟩
  | .hbm, ⟨39, _⟩ => ⟨S4096x16, .i32⟩
  | .hbm, ⟨40, _⟩ => ⟨S4096x16, .i32⟩
  | .hbm, ⟨41, _⟩ => ⟨S4096x16, .i32⟩
  | .hbm, ⟨42, _⟩ => ⟨S4096x16x1, .i32⟩
  | .hbm, ⟨43, _⟩ => ⟨S1, .i32⟩
  | .hbm, ⟨44, _⟩ => ⟨S_, .i32⟩
  | .hbm, ⟨45, _⟩ => ⟨S4096x16x1, .i32⟩
  | .hbm, ⟨46, _⟩ => ⟨S4096x16x1, .i1⟩
  | .hbm, ⟨47, _⟩ => ⟨S1x1x1, .i32⟩
  | .hbm, ⟨48, _⟩ => ⟨S4096x16x1, .i32⟩
  | .hbm, ⟨49, _⟩ => ⟨S4096x16x1, .i1⟩
  | .hbm, ⟨50, _⟩ => ⟨S4096x16x1, .i1⟩
  | .hbm, ⟨51, _⟩ => ⟨S_, .i1⟩
  | .hbm, ⟨52, _⟩ => ⟨S4096x16, .i1⟩
  | .hbm, ⟨53, _⟩ => ⟨S4096x16x1024, .f32⟩
  | .hbm, ⟨54, _⟩ => ⟨S4096x16x1024, .i1⟩
  | .hbm, ⟨55, _⟩ => ⟨S_, .f32⟩
  | .hbm, ⟨56, _⟩ => ⟨S4096x16x1024, .f32⟩
  | .hbm, ⟨57, _⟩ => ⟨S4096x16x1024, .f32⟩
  | .hbm, ⟨58, _⟩ => ⟨S_, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S2x2048x1024, .f32⟩
  | .hbm, ⟨64, _⟩ => ⟨S2x2048x2048, .f32⟩
  | .hbm, ⟨65, _⟩ => ⟨S2x2048x1024, .f32⟩
  | .hbm, ⟨66, _⟩ => ⟨S1x1x1024, .f32⟩
  | .hbm, ⟨67, _⟩ => ⟨S2x2048x1024, .f32⟩
  | .hbm, ⟨68, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call2_v0 : Ref sig .tc := ⟨.hbm, 32, rfl⟩
abbrev main_call2_v1_0 : Ref sig .tc := ⟨.hbm, 33, rfl⟩
abbrev main_v16 : Ref sig .tc := ⟨.hbm, 34, rfl⟩
abbrev main_call3_c : Ref sig .tc := ⟨.hbm, 35, rfl⟩
abbrev main_call3_v0 : Ref sig .tc := ⟨.hbm, 36, rfl⟩
abbrev main_call3_v1 : Ref sig .tc := ⟨.hbm, 37, rfl⟩
abbrev main_call3_c_0 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_c_1 : Ref sig .tc := ⟨.hbm, 43, rfl⟩
abbrev main_call3_c_2 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_call3_c_3 : Ref sig .tc := ⟨.hbm, 51, rfl⟩
abbrev main_call3_v12 : Ref sig .tc := ⟨.hbm, 52, rfl⟩
abbrev main_call3_v13 : Ref sig .tc := ⟨.hbm, 53, rfl⟩
abbrev main_call3_v14 : Ref sig .tc := ⟨.hbm, 54, rfl⟩
abbrev main_call3_cst : Ref sig .tc := ⟨.hbm, 55, rfl⟩
abbrev main_call3_v15 : Ref sig .tc := ⟨.hbm, 56, rfl⟩
abbrev main_v17 : Ref sig .tc := ⟨.hbm, 57, rfl⟩
abbrev main_cst_1 : Ref sig .tc := ⟨.hbm, 58, rfl⟩
abbrev main_v18 : Ref sig .tc := ⟨.hbm, 59, rfl⟩
abbrev main_cst_2 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩

abbrev nD : Nat := 1
abbrev τ : Topo := Topo.v7x

variable {F : FTy → Type} [FloatOps F]
-- ==== Proof.KernelBlocks.lean ====
/-
  What the kernel's body leaves behind at each grid point, as terms over the blocks it reads.

  At point 0 the body fills two carried buffers: the combined weights (the product of the projection weights with the
  top half of the fusion weights) and the bias row. No later point writes them, so they hold point 0's contents ever
  after. At a point `t ≥ 1` the body stores into the output block the product of its input block with the combined
  weights, plus the bias row on every row.
-/
module

public import proofs.«01_k».proof.Proof.Gen.KernelIdeal.Frame
public import proofs.«01_k».proof.Proof.Gen.KernelIdeal.Points
public import Idealize.ShloMosaic.Lib.Pipeline.Value
public import Idealize.ShloMosaic.Lib.Pipeline.ReadBack

@[expose] public section

set_option maxRecDepth 16384

noncomputable section

namespace Cert.KernelIdeal.Blocks

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The two-axis zero offset, as the constant function. -/
theorem off_zero : (![0, 0] : Fin 2 → Nat) = fun _ => 0 := funext fun a => by fin_cases a <;> rfl

/-- The first grid point. -/
abbrev pt0 : Fin cfg0.N := ⟨0, by decide⟩

/-- The combined weights: what point 0 leaves in the first carried buffer. -/
def comb (c : Dev nD) : Vec F S1024x1024 .bf16 := k0_pay1 (iblk m c 2 pt0) (iblk m c 1 pt0)

/-- The bias row: what point 0 leaves in the second carried buffer. -/
def bias (c : Dev nD) : Vec F S1x1024 .f32 :=
  k0_pay2 (iblk m c 2 pt0) (iblk m c 6 pt0) (iblk m c 4 pt0) (iblk m c 3 pt0) (iblk m c 5 pt0)

/-- After point 0 the first carried buffer holds the combined weights. -/
theorem first_comb (c : Dev nD) : (outsAt0 m c pt0.val pt0.isLt).2.1 = comb m c := by
  rw [outsAt0_A m c pt0 (by decide) (by decide)]
  dsimp only
  unfold sout0_A_0 comb
  rw [View.read_writes_eq_canon _ _ _ (scover0_A_0 c _ _ _ _ _ _ _ _ _ _ _ _ _ _ _ _ _ _ _ _ _ _ _ _ _ _ _ _ _ _)]
  unfold kernelRun0_A
  dsimp only
  rw [View.canon_unit_zero off_zero]
  simp only [View.readAt_eq_ld, Memref.IsWhole.read_unread, read_unread_whole, View.ld_unit_zero (S := S1024x1024) off_zero, View.ld_unit_zero (S := S1x1024) off_zero,
    View.ld_unit_zero (S := S16x1024) off_zero]

/-- After point 0 the second carried buffer holds the bias row. -/
theorem first_bias (c : Dev nD) : (outsAt0 m c pt0.val pt0.isLt).2.2 = bias m c := by
  rw [outsAt0_A m c pt0 (by decide) (by decide)]
  dsimp only
  unfold sout0_A_1 bias
  rw [View.read_writes_eq_canon _ _ _ (scover0_A_1 c _ _ _ _ _ _ _ _ _ _ _ _ _ _ _ _ _ _ _ _ _ _ _ _ _ _ _ _ _ _)]
  unfold kernelRun0_A
  dsimp only
  rw [View.canon_unit_zero off_zero]
  simp only [View.readAt_eq_ld, Memref.IsWhole.read_unread, read_unread_whole, View.ld_unit_zero (S := S1024x1024) off_zero, View.ld_unit_zero (S := S1x1024) off_zero,
    View.ld_unit_zero (S := S16x1024) off_zero]

/-- The carried buffers never change after point 0. -/
theorem carried (c : Dev nD) : ∀ (n : ℕ) (hn : n < cfg0.N),
    (outsAt0 m c n hn).2.1 = comb m c ∧ (outsAt0 m c n hn).2.2 = bias m c
  | 0, hn => ⟨first_comb m c, first_bias m c⟩
  | n + 1, hn => by
      have h5 : n + 1 < 5 := hn
      have ih := carried c n (Nat.lt_of_succ_lt hn)
      rw [outsAt0_B m c ⟨n + 1, hn⟩ (by dsimp only; omega) (by dsimp only; omega)]
      exact ih

/-- What a point after the first stores into the output block. -/
theorem later_out (c : Dev nD) (t : Fin cfg0.N) (ht : 1 ≤ t.val) :
    (outsAt0 m c t.val t.isLt).1 = k0_pay3 (iblk m c 0 t) (comb m c) (bias m c) := by
  have h5 : t.val < 5 := t.isLt
  rw [outsAt0_B m c t (by omega) ht]
  dsimp only
  rw [(carried m c _ _).1, (carried m c _ _).2]
  unfold out0_B_7
  rw [View.read_writes_eq_canon _ _ _ (cover0_B_7 c _ _ _ _ _ _ _ _ _ _ _ _ _ _ _ _ _ _ _ _ _ _ _ _ _ _ _ _ _ _ _ _)]
  unfold kernelRun0_B
  dsimp only
  rw [View.canon_unit_zero off_zero]
  simp only [View.readAt_eq_ld, Memref.IsWhole.read_unread, read_unread_whole, View.ld_unit_zero (S := S1024x1024) off_zero, View.ld_unit_zero (S := S1x1024) off_zero,
    View.ld_unit_zero (S := S16x1024) off_zero]

end Cert.KernelIdeal.Blocks

end
-- ==== Proof.KernelSum.lean ====
/-
  The kernel's three stored values, each read at one index over the extended reals.

  A matrix product read at an entry is a sum of products; the casts to a narrower format are the identity.
-/
module

public import proofs.«01_k».proof.Proof.Gen.KernelIdeal.Skeleton
public import Idealize.ShloMosaic.Lib.Pointwise
public import Idealize.ShloMosaic.PureOps.Ideal.Laws

@[expose] public section

set_option maxRecDepth 16384

noncomputable section

namespace Cert.KernelIdeal.Sums

open Idealize.ShloMosaic
open Cert.KernelIdeal Cert.KernelIdeal.Gen

/-- The combined weights at row `d`, column `j`. -/
theorem pay1_apply (wft wp : Vec Ideal S1024x1024 .f32) (d j : Fin 1024) :
    k0_pay1 (F := Ideal) wft wp (ix2 d j) = ∑ e : Fin 1024, wp (ix2 d e) * wft (ix2 e j) := by
  unfold k0_pay1
  simp only [pointwise]
  rw [zero_add]

/-- The output block at row `i`, column `j`. -/
theorem pay3_apply (x : Vec Ideal S1024x1024 .f32) (wc : Vec Ideal S1024x1024 .bf16) (b : Vec Ideal S1x1024 .f32)
    (i j : Fin 1024) :
    k0_pay3 (F := Ideal) x wc b (ix2 i j) = (∑ d : Fin 1024, x (ix2 i d) * wc (ix2 d j)) + b (ix2 0 j) := by
  unfold k0_pay3
  simp only [pointwise]
  rw [zero_add]
  rfl

/-- The bias row at column `j`. -/
theorem pay2_apply (wft : Vec Ideal S1024x1024 .f32) (kn : Vec Ideal S16x1024 .f32) (bp : Vec Ideal S1x1024 .f32)
    (wfb : Vec Ideal S1024x1024 .f32) (bf : Vec Ideal S1x1024 .f32) (j : Fin 1024) :
    k0_pay2 (F := Ideal) wft kn bp wfb bf (ix2 0 j)
      = ((∑ e : Fin 1024, bp (ix2 0 e) * wft (ix2 e j))
          + ∑ e : Fin 1024, Ideal.div (∑ k : Fin 16, kn (ix2 k e)) (Ideal.ofBits .f32 0x41800000#32) * wfb (ix2 e j))
        + bf (ix2 0 j) := by
  unfold k0_pay2
  simp only [pointwise]
  rw [zero_add, zero_add]

end Cert.KernelIdeal.Sums

end
-- ==== Proof.Equation.lean ====
/-
  The equation between the two programs, over the extended reals, at one entry of the result.

  The reference multiplies a row `x` by the projection weights, adds the projection bias, and multiplies by the top half
  of the fusion weights; the kernel multiplies the two weight matrices first. The two agree when `x`, the projection
  weights and the top half of the fusion weights are finite: multiplication distributes over sums of finite numbers.
  The remaining terms are the same on both sides, whatever their values.
-/
module

public import Mathlib.Data.EReal.Operations
public import Mathlib.Algebra.BigOperators.Ring.Finset
public import Mathlib.Algebra.BigOperators.Group.Finset.Sigma

@[expose] public section

noncomputable section

namespace Cert.Fusion

variable {D E : Type} [Fintype D] [Fintype E]

/-- The kernel's order: the weights multiplied first, the two bias terms and the mean's term gathered in one row. -/
def fusedAt (x : D → EReal) (wp : D → E → EReal) (bp wt mean wb : E → EReal) (bf : EReal) : EReal :=
  (∑ d, x d * ∑ e, wp d e * wt e) + ((∑ e, bp e * wt e) + (∑ e, mean e * wb e) + bf)

/-- The reference's order: the projected query first, then the fusion of the query and the mean. -/
def plainAt (x : D → EReal) (wp : D → E → EReal) (bp wt mean wb : E → EReal) (bf : EReal) : EReal :=
  ((∑ e, ((∑ d, x d * wp d e) + bp e) * wt e) + ∑ e, mean e * wb e) + bf

/-- An extended real that is neither infinity is a real number. -/
def Finite (a : EReal) : Prop := a ≠ ⊥ ∧ a ≠ ⊤

theorem Finite.exists_real {ι : Type} {f : ι → EReal} (h : ∀ i, Finite (f i)) : ∃ g : ι → ℝ, ∀ i, f i = (g i : EReal) :=
  ⟨fun i => (f i).toReal, fun i => (EReal.coe_toReal (h i).2 (h i).1).symm⟩

/-- A finite factor distributes over the sum of a real number and any extended real. -/
theorem add_mul_real (s w : ℝ) (b : EReal) : ((s : EReal) + b) * (w : EReal) = (s : EReal) * w + b * w := by
  induction b with
  | coe b => norm_cast; ring
  | bot =>
      rw [EReal.add_bot]
      rcases lt_trichotomy w 0 with h | h | h
      · rw [EReal.bot_mul_coe_of_neg h, ← EReal.coe_mul, EReal.coe_add_top]
      · subst h; simp
      · rw [EReal.bot_mul_coe_of_pos h, EReal.add_bot]
  | top =>
      rw [EReal.coe_add_top]
      rcases lt_trichotomy w 0 with h | h | h
      · rw [EReal.top_mul_coe_of_neg h, EReal.add_bot]
      · subst h; simp
      · rw [EReal.top_mul_coe_of_pos h, ← EReal.coe_mul, EReal.coe_add_top]

/-- The coercion of a finite sum of reals. -/
theorem coe_sum {ι : Type} [Fintype ι] (f : ι → ℝ) : ((∑ i, f i : ℝ) : EReal) = ∑ i, (f i : EReal) :=
  map_sum (⟨⟨Real.toEReal, EReal.coe_zero⟩, EReal.coe_add⟩ : ℝ →+ EReal) f Finset.univ

/-- Multiplying three finite arrays associates. -/
theorem assoc_real (x : D → ℝ) (wp : D → E → ℝ) (wt : E → ℝ) :
    (∑ e, (∑ d, (x d : EReal) * wp d e) * wt e) = ∑ d, (x d : EReal) * ∑ e, (wp d e : EReal) * wt e := by
  simp only [← EReal.coe_mul, ← coe_sum]
  congr 1
  simp only [Finset.sum_mul, Finset.mul_sum]
  rw [Finset.sum_comm]
  exact Finset.sum_congr rfl fun d _ => Finset.sum_congr rfl fun e _ => mul_assoc _ _ _

/-- The two orders agree on finite rows and weights. -/
theorem fused_eq_plain (x : D → EReal) (wp : D → E → EReal) (bp wt mean wb : E → EReal) (bf : EReal)
    (hx : ∀ d, Finite (x d)) (hp : ∀ d e, Finite (wp d e)) (ht : ∀ e, Finite (wt e)) :
    fusedAt x wp bp wt mean wb bf = plainAt x wp bp wt mean wb bf := by
  obtain ⟨x', hx'⟩ := Finite.exists_real hx
  obtain ⟨t', ht'⟩ := Finite.exists_real ht
  choose p' hp' using fun d => Finite.exists_real (hp d)
  unfold fusedAt plainAt
  simp only [hx', hp', ht']
  have hs : ∀ e, ((∑ d, (x' d : EReal) * (p' d e : EReal)) + bp e) * (t' e : EReal)
      = (∑ d, (x' d : EReal) * (p' d e : EReal)) * (t' e : EReal) + bp e * (t' e : EReal) := by
    intro e
    simp only [← EReal.coe_mul, ← coe_sum]
    exact add_mul_real _ _ _
  simp only [hs, Finset.sum_add_distrib]
  rw [assoc_real]
  simp only [add_assoc]

end Cert.Fusion

end
-- ==== Proof.KernelValue.lean ====
/-
  What the kernel's result holds after its run, over the extended reals.

  The output array is written block by block at points 1 to 4, block `t - 1` at point `t`, so entry `(r, j)` of the
  flat output is row `r` of the flat input times column `j` of the combined weights, plus entry `j` of the bias row.
  The line after the kernel gives that array its final shape.
-/
module

public import proofs.«01_k».proof.Proof.KernelBlocks
public import proofs.«01_k».proof.Proof.KernelSum
public import proofs.«01_k».proof.Proof.Equation
public import Idealize.ShloMosaic.Lib.Pipeline.ValueKit

@[expose] public section

set_option maxRecDepth 16384

noncomputable section

namespace Cert.KernelIdeal.Blocks

open Idealize.ShloMosaic Idealize.ShloMosaic.TcCoe Idealize.SL.Sem
open Cert.KernelIdeal Cert.KernelIdeal.Gen

variable (m : (ℓ : Loc nD τ sig) → Buf (Elt Ideal) ℓ)

theorem index_0 : ∀ t : Fin cfg0.N, win0_0.index t = ![t.val - 1, 0] :=
  (by decide +kernel : ∀ t : Fin grid0.N, _)
theorem index_1 : ∀ t : Fin cfg0.N, win0_1.index t = ![0, 0] :=
  (by decide +kernel : ∀ t : Fin grid0.N, _)
theorem index_2 : ∀ t : Fin cfg0.N, win0_2.index t = ![0, 0] :=
  (by decide +kernel : ∀ t : Fin grid0.N, _)
theorem index_3 : ∀ t : Fin cfg0.N, win0_3.index t = ![1, 0] :=
  (by decide +kernel : ∀ t : Fin grid0.N, _)
theorem index_4 : ∀ t : Fin cfg0.N, win0_4.index t = ![0, 0] :=
  (by decide +kernel : ∀ t : Fin grid0.N, _)
theorem index_5 : ∀ t : Fin cfg0.N, win0_5.index t = ![0, 0] :=
  (by decide +kernel : ∀ t : Fin grid0.N, _)
theorem index_6 : ∀ t : Fin cfg0.N, win0_6.index t = ![0, 0] :=
  (by decide +kernel : ∀ t : Fin grid0.N, _)
theorem index_7 : ∀ t : Fin cfg0.N, win0_7.index t = ![t.val - 1, 0] :=
  (by decide +kernel : ∀ t : Fin grid0.N, _)
theorem flush_7 : ∀ t : Fin cfg0.N, win0_7.flush t = true → 1 ≤ t.val :=
  (by decide +kernel : ∀ t : Fin grid0.N, _)

/-- Rows of `x` times the combined weights `w`, plus the bias row `b`. -/
def flatOf (x : FVec Ideal S4096x1024 .f32) (w : FVec Ideal S1024x1024 .bf16) (b : FVec Ideal S1x1024 .f32) :
    FVec Ideal S4096x1024 .f32 := fun i =>
  (∑ d : Fin 1024, x (ix2 (i 0) d) * w (ix2 d (i 1))) + b (ix2 0 (i 1))

/-- The input block at a point, read off the flat input. -/
theorem block_x (c : Dev nD) (t : Fin cfg0.N) (ht : 1 ≤ t.val) (i d : Fin 1024) (r : Fin 4096)
    (hr : r.val = (t.val - 1) * 1024 + i.val) :
    iblk m c 0 t (ix2 i d) = V m c main_v0 (ix2 r d) := by
  blk_simp [iblk]
  congr 1
  funext a
  apply Fin.ext
  match a with
  | ⟨0, _⟩ => blk_simp [index_0]; exact hr.symm
  | ⟨1, _⟩ => blk_simp [index_0]

/-- The flat output array after the run. -/
theorem final_flat (c : Dev nD) :
    (dats m 0 c).arrAt 7 cfg0.N = flatOf (V m c main_v0) (comb m c) (bias m c) := by
  refine (dats m 0 c).arrAt_eq_of_covers 7 _ (by decide +kernel) fun t hf y => ?_
  have ht : 1 ≤ t.val := flush_7 t hf
  blk_simp
  rw [after0_7, later_out m c t ht]
  obtain ⟨i, j, rfl⟩ : ∃ i j : Fin 1024, y = ix2 i j :=
    ⟨y 0, y 1, by funext a; match a with | ⟨0, _⟩ => rfl | ⟨1, _⟩ => rfl⟩
  rw [Sums.pay3_apply]
  have hN : t.val < 5 := t.isLt
  have hi := i.isLt
  obtain ⟨r, hr⟩ : ∃ r : Fin 4096, r.val = (t.val - 1) * 1024 + i.val := ⟨⟨(t.val - 1) * 1024 + i.val, by omega⟩, rfl⟩
  have he : (win0_7.blk t).view.emb (ix2 i j) = ix2 r j := by
    funext a
    apply Fin.ext
    match a with
    | ⟨0, _⟩ => blk_simp [index_7]; exact hr.symm
    | ⟨1, _⟩ => blk_simp [index_7]
  rw [he]
  simp only [block_x m c t ht i _ r hr]
  rfl

/-- The flat input as the kernel finds it. -/
theorem flat_x (c : Dev nD) : V m c main_v0 = shapeCast S4096x1024 (m ((c : Thread nD τ).loc main_arg0)) shapeCasts_S2x2048x1024_S4096x1024 := by
  simp only [V, V0, hostOps0, List.flatten_cons, List.flatten_nil, List.append_nil]
  after_results_simp
  rfl
theorem row_bp (c : Dev nD) : V m c main_v1 = shapeCast S1x1024 (m ((c : Thread nD τ).loc main_arg2)) shapeCasts_S1024_S1x1024 := by
  simp only [V, V0, hostOps0, List.flatten_cons, List.flatten_nil, List.append_nil]
  after_results_simp
  rfl
theorem row_bf (c : Dev nD) : V m c main_v2 = shapeCast S1x1024 (m ((c : Thread nD τ).loc main_arg4)) shapeCasts_S1024_S1x1024 := by
  simp only [V, V0, hostOps0, List.flatten_cons, List.flatten_nil, List.append_nil]
  after_results_simp
  rfl

/-- The blocks of point 0 are the whole of their arrays, or a half of the fusion weights. -/
theorem block_wp (c : Dev nD) (d e : Fin 1024) :
    iblk m c 1 pt0 (ix2 d e) = m ((c : Thread nD τ).loc main_arg1) (ix2 d e) := by
  rw [← V_main_arg1 m c]
  blk_simp [iblk]
  congr 1
  funext a
  apply Fin.ext
  match a with
  | ⟨0, _⟩ => blk_simp [index_1]
  | ⟨1, _⟩ => blk_simp [index_1]
theorem block_top (c : Dev nD) (e j : Fin 1024) :
    iblk m c 2 pt0 (ix2 e j) = m ((c : Thread nD τ).loc main_arg3) (ix2 (e.castLE (by decide)) j) := by
  rw [← V_main_arg3 m c]
  blk_simp [iblk]
  congr 1
  funext a
  apply Fin.ext
  match a with
  | ⟨0, _⟩ => blk_simp [index_2]; rfl
  | ⟨1, _⟩ => blk_simp [index_2]
theorem block_bottom (c : Dev nD) (e j : Fin 1024) :
    iblk m c 3 pt0 (ix2 e j) = m ((c : Thread nD τ).loc main_arg3) (ix2 (e.natAdd 1024) j) := by
  rw [← V_main_arg3 m c]
  blk_simp [iblk]
  congr 1
  funext a
  apply Fin.ext
  match a with
  | ⟨0, _⟩ => blk_simp [index_3]; rfl
  | ⟨1, _⟩ => blk_simp [index_3]
theorem block_bp (c : Dev nD) (j : Fin 1024) :
    iblk m c 4 pt0 (ix2 0 j) = V m c main_v1 (ix2 0 j) := by
  blk_simp [iblk]
  congr 1
  funext a
  apply Fin.ext
  match a with
  | ⟨0, _⟩ => blk_simp [index_4]
  | ⟨1, _⟩ => blk_simp [index_4]
theorem block_bf (c : Dev nD) (j : Fin 1024) :
    iblk m c 5 pt0 (ix2 0 j) = V m c main_v2 (ix2 0 j) := by
  blk_simp [iblk]
  congr 1
  funext a
  apply Fin.ext
  match a with
  | ⟨0, _⟩ => blk_simp [index_5]
  | ⟨1, _⟩ => blk_simp [index_5]
theorem block_kn (c : Dev nD) (k : Fin 16) (e : Fin 1024) :
    iblk m c 6 pt0 (ix2 k e) = m ((c : Thread nD τ).loc main_arg5) (ix2 k e) := by
  rw [← V_main_arg5 m c]
  blk_simp [iblk]
  congr 1
  funext a
  apply Fin.ext
  match a with
  | ⟨0, _⟩ => blk_simp [index_6]
  | ⟨1, _⟩ => blk_simp [index_6]

/-- The mean of the knowledge rows, at one column. -/
def meanAt (kn : Vec Ideal S16x1024 .f32) (e : Fin 1024) : EReal :=
  Ideal.div (∑ k : Fin 16, kn (ix2 k e)) (Ideal.ofBits .f32 0x41800000#32)

/-- The result buffer after the run: the flat output, reshaped. -/
theorem final_result (c : Dev nD) :
    Pipeline.afterTail₀ cfgs (dats m) 0 (V0 m) [hostOps1] c main_v4
      = shapeCast S2x2048x1024 (flatOf (V m c main_v0) (comb m c) (bias m c)) shapeCasts_S4096x1024_S2x2048x1024 := by
  unfold Pipeline.afterTail₀
  simp only [hostOps1, List.flatten_cons, List.flatten_nil, List.append_nil]
  after_results_simp
  have h := (dats m 0 c).withArrays_arrAt sharedIn0 (V0 m c) (A_eq m c) 7
  rw [← final_flat m c, ← h]
  rfl

/-- The argument arrays at one entry: the input, the projection weights and bias, the two halves of the fusion weights,
    and the fusion bias. -/
abbrev argX (c : Dev nD) (b : Fin 2) (s : Fin 2048) (d : Fin 1024) : EReal := m ((c : Thread nD τ).loc main_arg0) (ix3 b s d)
abbrev argP (c : Dev nD) (d e : Fin 1024) : EReal := m ((c : Thread nD τ).loc main_arg1) (ix2 d e)
abbrev argPB (c : Dev nD) (e : Fin 1024) : EReal := m ((c : Thread nD τ).loc main_arg2) (ix1 e)
abbrev argTop (c : Dev nD) (j e : Fin 1024) : EReal := m ((c : Thread nD τ).loc main_arg3) (ix2 (e.castLE (by decide)) j)
abbrev argBottom (c : Dev nD) (j e : Fin 1024) : EReal := m ((c : Thread nD τ).loc main_arg3) (ix2 (e.natAdd 1024) j)
abbrev argFB (c : Dev nD) (j : Fin 1024) : EReal := m ((c : Thread nD τ).loc main_arg4) (ix1 j)

/-- The combined weights at one entry. -/
theorem comb_apply (c : Dev nD) (d j : Fin 1024) :
    comb m c (ix2 d j) = ∑ e : Fin 1024, argP m c d e * argTop m c j e :=
  (Sums.pay1_apply _ _ d j).trans (Finset.sum_congr rfl fun e _ =>
    congrArg₂ (fun p q : EReal => p * q) (block_wp m c d e) (block_top m c e j))

/-- The flat input at one entry. -/
theorem x_apply (c : Dev nD) (b : Fin 2) (s : Fin 2048) (d : Fin 1024) (h : b.val * 2048 + s.val < 4096) :
    V m c main_v0 (ix2 ⟨b.val * 2048 + s.val, h⟩ d) = argX m c b s d := by
  have hb := b.isLt
  have hs := s.isLt
  rw [flat_x]
  simp only [pointwise]

/-- The projection bias and the fusion bias, read as rows. -/
theorem bp_apply (c : Dev nD) (e : Fin 1024) : V m c main_v1 (ix2 0 e) = argPB m c e := by
  rw [row_bp]
  simp only [pointwise]
theorem bf_apply (c : Dev nD) (j : Fin 1024) : V m c main_v2 (ix2 0 j) = argFB m c j := by
  rw [row_bf]
  simp only [pointwise]

/-- The bias row at one entry. -/
theorem bias_apply (c : Dev nD) (j : Fin 1024) :
    bias m c (ix2 0 j)
      = (∑ e : Fin 1024, argPB m c e * argTop m c j e)
          + (∑ e : Fin 1024, meanAt (m ((c : Thread nD τ).loc main_arg5)) e * argBottom m c j e)
          + argFB m c j :=
  (Sums.pay2_apply _ _ _ _ _ j).trans (congrArg₂ (fun p q : EReal => p + q)
    (congrArg₂ (fun p q : EReal => p + q)
      (Finset.sum_congr rfl fun e _ => congrArg₂ (fun p q : EReal => p * q)
        ((block_bp m c e).trans (bp_apply m c e)) (block_top m c e j))
      (Finset.sum_congr rfl fun e _ => congrArg₂ (fun p q : EReal => p * q)
        (congrArg (fun a : EReal => Ideal.div a (Ideal.ofBits .f32 0x41800000#32))
          (Finset.sum_congr rfl fun k _ => block_kn m c k e))
        (block_bottom m c e j)))
    ((block_bf m c j).trans (bf_apply m c j)))

/-- The result at one entry, in the kernel's order of multiplication. -/
theorem result_apply (c : Dev nD) (b : Fin 2) (s : Fin 2048) (j : Fin 1024) :
    Pipeline.afterTail₀ cfgs (dats m) 0 (V0 m) [hostOps1] c main_v4 (ix3 b s j)
      = Fusion.fusedAt (argX m c b s) (argP m c) (argPB m c) (argTop m c j)
          (meanAt (m ((c : Thread nD τ).loc main_arg5))) (argBottom m c j) (argFB m c j) := by
  rw [final_result]
  simp only [pointwise]
  exact congrArg₂ (fun p q : EReal => p + q)
    (Finset.sum_congr rfl fun d _ => congrArg₂ (fun p q : EReal => p * q) (x_apply m c b s d _) (comb_apply m c d j))
    (bias_apply m c j)

end Cert.KernelIdeal.Blocks

end
-- ==== Proof.RefShape.lean ====
/-
  The reference's result, in stages.

  The query is the projected input. The order of the sixteen knowledge rows by similarity is the second result of a sort
  carrying the positions `0 … 15`; what is said below of the rows read through that order holds whatever was compared.
-/
module

public import proofs.«01_k».proof.Proof.Gen.ReferenceIdeal.Run

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen

variable {F : FTy → Type} [FloatOps F]

/-- The projected input. -/
def query (x : Vec F S2x2048x1024 .f32) (wp : Vec F S1024x1024 .f32) (bp : Vec F S1024 .f32) : FVec F S2x2048x1024 .f32 :=
  addf (Host.dotGeneral dot_S2x2048x1024_S1024x1024_S2x2048x1024_2_0_01_1_n_n none x wp)
    (broadcastInDim S2x2048x1024 ![0, 1, 2] bcast_S1x1x1024_S2x2048x1024_0_1_2
      (broadcastInDim S1x1x1024 ![2] bcast_S1024_S1x1x1024_2 bp))

/-- The positions of the knowledge rows, sorted by similarity, for each query. -/
def order (sim : FVec F S4096x16 .f32) : IVec S4096x16 32 :=
  (Host.sort2 S4096x16 1 comparator_f32_i32_d1 sim (iotaInDim S4096x16 32 1)).2

/-- The row numbers the lookup reads: a negative position counts from the end. -/
def wrapped (o : IVec S4096x16 32) : IVec S4096x16x1 32 :=
  broadcastInDim S4096x16x1 ![0, 1] bcast_S4096x16_S4096x16x1_0_1
    (select (cmpi .slt o (broadcastInDim S4096x16 ![] bcast_S_S4096x16 (constantI S_ 32 0#32)))
      (addi o (broadcastInDim S4096x16 ![] bcast_S_S4096x16 (constantI S_ 32 16#32))) o)

/-- Whether each row number lies in the table. -/
def inTable (w : IVec S4096x16x1 32) : IVec S4096x16 1 :=
  Host.reduce IntOp.andi
    (andi (cmpi .sge w (broadcastInDim S4096x16x1 ![] bcast_S_S4096x16x1 (constantI S_ 32 0#32)))
      (cmpi .sle w (broadcastInDim S4096x16x1 ![0, 1, 2] bcast_S1x1x1_S4096x16x1_0_1_2
        (broadcastInDim S1x1x1 ![2] bcast_S1_S1x1x1_2 (constantI S1 32 15#32)))))
    (constantI S_ 1 1#1) reducesTo_S4096x16x1_S4096x16_d2 h_S_

/-- The rows looked up. -/
def rows (kn : Vec F S16x1024 .f32) (o : IVec S4096x16 32) : FVec F S4096x16x1024 .f32 :=
  select (broadcastInDim S4096x16x1024 ![0, 1] bcast_S4096x16_S4096x16x1024_0_1 (inTable (wrapped o)))
    (Host.gather gather_S16x1024_S4096x16x1_S4096x16x1024_2_0_n_n_0_2_11024 kn (wrapped o))
    (broadcastInDim S4096x16x1024 ![] bcast_S_S4096x16x1024 (constant S_ .f32 0x7FC00000#32))

/-- Their mean, for each query. -/
def retrieved (kn : Vec F S16x1024 .f32) (o : IVec S4096x16 32) : FVec F S4096x1024 .f32 :=
  Host.divf (Host.reduceAdd (rows kn o) (constant S_ .f32 0x00000000#32) reducesTo_S4096x16x1024_S4096x1024_d1 h_S_)
    (broadcastInDim S4096x1024 ![] bcast_S_S4096x1024 (constant S_ .f32 0x41800000#32))

/-- The fusion of the query and the retrieved mean. -/
def fuse (q : FVec F S2x2048x1024 .f32) (r : FVec F S4096x1024 .f32) (wf : Vec F S2048x1024 .f32) (bf : Vec F S1024 .f32) :
    FVec F S2x2048x1024 .f32 :=
  addf (Host.dotGeneral dot_S2x2048x2048_S2048x1024_S2x2048x1024_2_0_01_1_n_n none
      (concatenate S2x2048x2048 2 [⟨S2x2048x1024, q⟩,
        ⟨S2x2048x1024, shapeCast S2x2048x1024 r shapeCasts_S4096x1024_S2x2048x1024⟩]
        concatenates_S2x2048x1024_S2x2048x1024_S2x2048x2048_d2) wf)
    (broadcastInDim S2x2048x1024 ![0, 1, 2] bcast_S1x1x1024_S2x2048x1024_0_1_2
      (broadcastInDim S1x1x1024 ![2] bcast_S1024_S1x1x1024_2 bf))

/-- The reference's result is these stages, for some similarities. -/
theorem result_eq (m : (ℓ : Loc nD τ sig) → Buf (Elt F) ℓ) (c : Dev nD) :
    ∃ sim : FVec F S4096x16 .f32, Value.res_out0 m c
      = fuse (query (m ((c.tc : Thread nD τ).loc main_arg0)) (m ((c.tc : Thread nD τ).loc main_arg1))
            (m ((c.tc : Thread nD τ).loc main_arg2)))
          (retrieved (m ((c.tc : Thread nD τ).loc main_arg5)) (order sim))
          (m ((c.tc : Thread nD τ).loc main_arg3)) (m ((c.tc : Thread nD τ).loc main_arg4)) := by
  refine ⟨?_, ?_⟩
  rotate_left
  · unfold Value.res_out0 Value.res_main_v26 fuse query retrieved rows inTable wrapped order
    rfl

end Cert.ReferenceIdeal.Stages

end
-- ==== Proof.RefOrder.lean ====
/-
  The rows looked up are all the rows of the table, each once.

  Whatever the similarities, sorting the positions `0 … 15` along with them leaves those positions in some order. So no
  position is negative, none falls outside the table, and the sum over the looked-up rows is the sum over the table.
-/
module

public import proofs.«01_k».proof.Proof.RefShape
public import Idealize.ShloMosaic.Lib.Pointwise
public import Idealize.ShloMosaic.Lib.SortFacts
public import Idealize.ShloMosaic.PureOps.Ideal.Laws

@[expose] public section

set_option maxRecDepth 16384

noncomputable section

namespace Cert.ReferenceIdeal.Stages

open Idealize.ShloMosaic Idealize.ShloMosaic.TcCoe
open Cert.ReferenceIdeal Cert.ReferenceIdeal.Gen

variable {F : FTy → Type} [FloatOps F]

/-- Moving along a row changes the column only. -/
theorem along_row (r : Fin 4096) (k q : Fin 16) : (ix2 r k : S4096x16.Idx).along (1 : Fin 2) q = ix2 r q := by
  funext a
  match a with
  | ⟨0, _⟩ => rfl
  | ⟨1, _⟩ => rfl

/-- A row's positions `0 … 15`, sorted along with any values by any comparison, are the places the sort takes from. -/
theorem sorted_positions {α : Type} (before : α × BitVec 32 → α × BitVec 32 → BitVec 1) (x : S4096x16.Idx → α)
    (r : Fin 4096) (k : Fin 16) :
    (Host.sort2 S4096x16 1 before x (iotaInDim S4096x16 32 1)).2 (ix2 r k)
      = BitVec.ofNat 32 (sortedFrom (fun a b : Fin 16 =>
          before (x (ix2 r a), iotaInDim S4096x16 32 1 (ix2 r a)) (x (ix2 r b), iotaInDim S4096x16 32 1 (ix2 r b)) == 1#1) k).val := by
  unfold Host.sort2
  rw [dif_pos (show 1 < S4096x16.rank by decide)]
  have hp : ∀ p : Fin 16 → S4096x16.Idx, p = ix2 r →
      iotaInDim S4096x16 32 1 (p (sortedFrom (fun a b : Fin 16 =>
        before (x (p a), iotaInDim S4096x16 32 1 (p a)) (x (p b), iotaInDim S4096x16 32 1 (p b)) == 1#1) k))
      = BitVec.ofNat 32 (sortedFrom (fun a b : Fin 16 =>
          before (x (ix2 r a), iotaInDim S4096x16 32 1 (ix2 r a)) (x (ix2 r b), iotaInDim S4096x16 32 1 (ix2 r b)) == 1#1) k).val := by
    rintro _ rfl
    rfl
  exact hp (fun q => (ix2 r k : S4096x16.Idx).along (1 : Fin 2) q) (funext fun q => along_row r k q)

/-- Along each row the sorted positions are a permutation of `0 … 15`. -/
theorem order_perm (sim : FVec F S4096x16 .f32) (r : Fin 4096) :
    ∃ σ : Equiv.Perm (Fin 16), ∀ k : Fin 16, order sim (ix2 r k) = BitVec.ofNat 32 (σ k).val := by
  have hk : ∀ k : Fin 16, order sim (ix2 r k) = _ := fun k => sorted_positions comparator_f32_i32_d1 sim r k
  generalize (fun a b : Fin 16 => comparator_f32_i32_d1 (sim (ix2 r a), iotaInDim S4096x16 32 1 (ix2 r a))
    (sim (ix2 r b), iotaInDim S4096x16 32 1 (ix2 r b)) == 1#1) = before at hk
  exact ⟨Equiv.ofBijective (sortedFrom before) ⟨sortedFrom_injective _, sortedFrom_surjective _⟩, hk⟩

/-- The row numbers read are the sorted positions. -/
theorem wrapped_apply (o : IVec S4096x16 32) (r : Fin 4096) (k : Fin 16) (n : Fin 16)
    (h : o (ix2 r k) = BitVec.ofNat 32 n.val) : wrapped o (ix3 r k 0) = BitVec.ofNat 32 n.val := by
  unfold wrapped
  simp only [pointwise]
  change Scalar.select (IntOp.cmpi .slt (o (ix2 r k)) 0#32) (IntOp.addi (o (ix2 r k)) 16#32) (o (ix2 r k)) = _
  rw [h]
  clear h
  revert n
  decide

/-- They lie in the table. -/
theorem inTable_apply (w : IVec S4096x16x1 32) (r : Fin 4096) (k : Fin 16) (n : Fin 16)
    (h : w (ix3 r k 0) = BitVec.ofNat 32 n.val) : inTable w (ix2 r k) = 1#1 := by
  unfold inTable
  simp only [pointwise]
  rw [Finset.univ_unique, Finset.fold_singleton, show (default : Fin 1) = 0 from rfl, h]
  clear h
  revert n
  decide

/-- The lookup reads column `e` of the row named. -/
theorem gather_apply (kn : Vec F S16x1024 .f32) (w : IVec S4096x16x1 32) (r : Fin 4096) (k : Fin 16) (e : Fin 1024) (n : Fin 16)
    (h : w (ix3 r k 0) = BitVec.ofNat 32 n.val) :
    Host.gather gather_S16x1024_S4096x16x1_S4096x16x1024_2_0_n_n_0_2_11024 kn w (ix3 r k e) = kn (ix2 n e) := by
  unfold Host.gather
  congr 1
  funext a
  refine Fin.ext ?_
  show GatherDims.start _ (ix3 r k e) w a + GatherDims.batchCoord _ (ix3 r k e) a + GatherDims.offCoord _ (ix3 r k e) a = _
  rw [GatherDims.batchCoord_eq_zero _ _ _ List.not_mem_nil, Nat.add_zero]
  have ha : a = (0 : Fin 2) ∨ a = (1 : Fin 2) := by
    match a with
    | ⟨0, _⟩ => exact Or.inl rfl
    | ⟨1, _⟩ => exact Or.inr rfl
  rcases ha with rfl | rfl
  · rw [GatherDims.offCoord_eq_zero _ _ _ fun hk => ((GatherDims.mem_sKept _ _).mp hk).1 (List.mem_singleton.mpr rfl),
      Nat.add_zero]
    unfold GatherDims.start
    rw [dif_pos (show (0 : Fin 2) ∈ gather_S16x1024_S4096x16x1_S4096x16x1024_2_0_n_n_0_2_11024.startIndexMap from List.mem_singleton.mpr rfl)]
    have hat : ∀ i : S4096x16x1.Idx, i = ix3 r k 0 → min (w i).toInt.toNat (16 - 1) = n.val := by
      rintro _ rfl
      rw [h]
      clear h
      revert n
      decide
    refine hat _ ?_
    funext b
    refine Fin.ext ?_
    match b with
    | ⟨0, _⟩ => rfl
    | ⟨1, _⟩ => rfl
    | ⟨2, _⟩ => rfl
  · have h1 : (1 : Fin 2) ∉ [(0 : Fin 2)] := by decide
    unfold GatherDims.start GatherDims.offCoord
    rw [dif_neg (show (1 : Fin 2) ∉ gather_S16x1024_S4096x16x1_S4096x16x1024_2_0_n_n_0_2_11024.startIndexMap from h1), dif_pos ((GatherDims.mem_sKept _ _).mpr ⟨h1, List.not_mem_nil⟩), Nat.zero_add]
    rfl

/-- So each looked-up row is the row of the table at the sorted position. -/
theorem rows_apply (kn : Vec F S16x1024 .f32) (o : IVec S4096x16 32) (r : Fin 4096) (k : Fin 16) (e : Fin 1024) (n : Fin 16)
    (h : o (ix2 r k) = BitVec.ofNat 32 n.val) : rows kn o (ix3 r k e) = kn (ix2 n e) := by
  have hw := wrapped_apply o r k n h
  unfold rows
  simp only [pointwise]
  change Scalar.select (inTable (wrapped o) (ix2 r k)) _ _ = _
  rw [inTable_apply _ r k n hw, gather_apply kn _ r k e n hw]
  rfl

end Cert.ReferenceIdeal.Stages

end
-- ==== Proof.RefValue.lean ====
/-
  The reference's result at an entry, over the reals: the projected input against the upper half of the fusion weight, plus
  the mean of the knowledge rows against the lower half, plus the bias.
-/
module

public import proofs.«01_k».proof.Proof.RefOrder
public import proofs.«01_k».proof.Proof.Equation

@[expose] public section

set_option maxRecDepth 16384

noncomputable section

namespace Cert.ReferenceIdeal.Stages

open Idealize.ShloMosaic Idealize.ShloMosaic.TcCoe
open Cert.ReferenceIdeal Cert.ReferenceIdeal.Gen

/-- The projected input at an entry. -/
theorem query_apply (x : Vec Ideal S2x2048x1024 .f32) (wp : Vec Ideal S1024x1024 .f32) (bp : Vec Ideal S1024 .f32)
    (b : Fin 2) (s : Fin 2048) (e : Fin 1024) :
    query x wp bp (ix3 b s e)
      = ((∑ d : Fin 1024, (x (ix3 b s d) : EReal) * (wp (ix2 d e) : EReal)) + (bp (ix1 e) : EReal) : EReal) := by
  unfold query
  simp only [pointwise]
  rw [zero_add]
  rfl

/-- The mean of the looked-up rows is the mean of the table's rows. -/
theorem retrieved_apply (kn : Vec Ideal S16x1024 .f32) (sim : FVec Ideal S4096x16 .f32) (r : Fin 4096) (e : Fin 1024) :
    retrieved kn (order sim) (ix2 r e)
      = Ideal.div (∑ k : Fin 16, (kn (ix2 k e) : EReal)) (Ideal.ofBits .f32 0x41800000#32) := by
  obtain ⟨σ, hσ⟩ := order_perm sim r
  unfold retrieved
  simp only [pointwise]
  rw [zero_add]
  exact congrArg (fun a : EReal => Ideal.div a (Ideal.ofBits .f32 0x41800000#32))
    ((Finset.sum_congr rfl fun k _ => rows_apply kn (order sim) r k e (σ k) (hσ k)).trans
      (Equiv.sum_comp σ fun k : Fin 16 => (kn (ix2 k e) : EReal)))

/-- The fusion at an entry, when every query has the same mean. -/
theorem fuse_apply (q : FVec Ideal S2x2048x1024 .f32) (v : FVec Ideal S4096x1024 .f32) (wf : Vec Ideal S2048x1024 .f32)
    (bf : Vec Ideal S1024 .f32) (mean : Fin 1024 → EReal) (hv : ∀ (r : Fin 4096) (e : Fin 1024), v (ix2 r e) = mean e)
    (b : Fin 2) (s : Fin 2048) (j : Fin 1024) :
    fuse q v wf bf (ix3 b s j)
      = (((∑ e : Fin 1024, (q (ix3 b s e) : EReal) * (wf (ix2 (e.castLE (by decide)) j) : EReal))
          + ∑ e : Fin 1024, mean e * (wf (ix2 (e.natAdd 1024) j) : EReal)) + (bf (ix1 j) : EReal) : EReal) := by
  unfold fuse
  simp only [pointwise]
  rw [zero_add]
  refine congrArg₂ (fun p q : EReal => p + q) (congrArg₂ (fun p q : EReal => p + q) ?_ ?_) rfl
  · exact Finset.sum_congr rfl fun e _ => congrArg₂ (fun p q : EReal => p * q) (dif_pos trivial) rfl
  · refine Finset.sum_congr rfl fun e _ => congrArg₂ (fun p q : EReal => p * q) ((dif_neg not_false).trans ?_) rfl
    exact (hv _ _).trans (congrArg mean (Fin.ext (Nat.add_sub_cancel_left ..)))

/-- The result at an entry, for any similarities. -/
theorem value_apply (sim : FVec Ideal S4096x16 .f32) (x : Vec Ideal S2x2048x1024 .f32) (wp : Vec Ideal S1024x1024 .f32)
    (bp : Vec Ideal S1024 .f32) (wf : Vec Ideal S2048x1024 .f32) (bf : Vec Ideal S1024 .f32) (kn : Vec Ideal S16x1024 .f32)
    (b : Fin 2) (s : Fin 2048) (j : Fin 1024) :
    fuse (query x wp bp) (retrieved kn (order sim)) wf bf (ix3 b s j)
      = Fusion.plainAt (fun d : Fin 1024 => x (ix3 b s d)) (fun d e : Fin 1024 => wp (ix2 d e)) (fun e => bp (ix1 e))
          (fun e => wf (ix2 (e.castLE (by decide)) j))
          (fun e => Ideal.div (∑ k : Fin 16, (kn (ix2 k e) : EReal)) (Ideal.ofBits .f32 0x41800000#32))
          (fun e => wf (ix2 (e.natAdd 1024) j)) (bf (ix1 j)) := by
  refine (fuse_apply _ _ wf bf _ (fun r e => retrieved_apply kn sim r e) b s j).trans ?_
  unfold Fusion.plainAt
  simp only [query_apply]

end Cert.ReferenceIdeal.Stages

end
-- ==== Proof.Finite.lean ====
/-
  What the precondition says: every entry of the input, of the projection weights and of the top half of the fusion
  weights is a real number, neither infinity.
-/
module

public import proofs.«01_k».proof.Defs
public import proofs.«01_k».proof.Proof.Equation
public import Idealize.ShloMosaic.Lib.Pointwise
public import Idealize.ShloMosaic.Lib.ReduceAll
public import Idealize.ShloMosaic.PureOps.Ideal.Laws

@[expose] public section

set_option maxRecDepth 16384

noncomputable section

namespace Cert.Pre_finite

open Idealize.ShloMosaic

/-- A number whose absolute value is below infinity is finite. -/
theorem finite_of_abs_lt (a : EReal)
    (h : FloatOps.cmpf (F := Ideal) (φ := .f32) .olt (FloatOps.hostAbsf (F := Ideal) (φ := .f32) a)
      (FloatOps.ofBits (F := Ideal) .f32 0x7F800000#32) = 1#1) : Fusion.Finite a := by
  have htop : Ideal.ofBits .f32 0x7F800000#32 = ⊤ := by simp [Ideal.ofBits, Ideal.ieee]
  change Ideal.cmp .olt (max a (-a)) (Ideal.ofBits .f32 0x7F800000#32) = 1#1 at h
  rw [htop] at h
  unfold Ideal.cmp at h
  constructor <;> rintro rfl <;> simp at h

variable [Facts]

instance : Subsingleton S_.Idx := ⟨fun _ _ => funext fun a => a.elim0⟩

/-- The precondition, read at the entries it covers. -/
theorem entries (x : FVec Ideal S2x2048x1024 .f32) (wp : FVec Ideal S1024x1024 .f32) (bp : FVec Ideal S1024 .f32)
    (wf : FVec Ideal S2048x1024 .f32) (bf : FVec Ideal S1024 .f32) (kn : FVec Ideal S16x1024 .f32)
    (h : fn (F := Ideal) x wp bp wf bf kn = fun _ => 1#1) :
    (∀ (b : Fin 2) (s : Fin 2048) (d : Fin 1024), Fusion.Finite (x (ix3 b s d)))
      ∧ (∀ d e : Fin 1024, Fusion.Finite (wp (ix2 d e)))
      ∧ ∀ e j : Fin 1024, Fusion.Finite (wf (ix2 (e.castLE (by decide)) j)) := by
  have h0 := congrFun h fun a => a.elim0
  unfold fn at h0
  simp only [Idealize.ShloMosaic.andi] at h0
  obtain ⟨h12, h3⟩ := IntOp.andi_eq_one.1 h0
  obtain ⟨h1, h2⟩ := IntOp.andi_eq_one.1 h12
  refine ⟨fun b s d => ?_, fun d e => ?_, fun e j => ?_⟩
  · exact finite_of_abs_lt _ (Host.reduce_andi_all _ _ _ _ _ h1 (ix3 b s d))
  · exact finite_of_abs_lt _ (Host.reduce_andi_all _ _ _ _ _ h2 (ix2 d e))
  · have hslice : extractStridedSlice S1024x1024 ![0, 0] wf Facts.slices_S2048x1024_S1024x1024_0_0 (ix2 e j)
        = wf (ix2 (e.castLE (by decide)) j) := by
      simp only [pointwise]
      exact congrArg₂ (fun p q => wf (ix2 p q)) (Fin.ext (Nat.zero_add _)) (Fin.ext (Nat.zero_add _))
    rw [← hslice]
    exact finite_of_abs_lt _ (Host.reduce_andi_all _ _ _ _ _ h3 (ix2 e j))

end Cert.Pre_finite

end
-- ==== Proof.SameResult.lean ====
/-
  The idealized kernel and the reference end with the same result, on inputs the precondition admits.
-/
module

public import proofs.«01_k».proof.Defs
public import proofs.«01_k».proof.Proof.KernelValue
public import proofs.«01_k».proof.Proof.RefValue
public import proofs.«01_k».proof.Proof.Finite
public import proofs.«01_k».proof.Proof.Gen.Pre_finite
public import proofs.«01_k».proof.Proof.Gen.KernelIdeal.Frame
public import Idealize.ShloMosaic.Lib.Claim

@[expose] public section

set_option maxRecDepth 16384

noncomputable section

namespace Cert.SameResult

open Idealize.ShloMosaic Idealize.ShloMosaic.TcCoe Idealize.SL.Sem

/-- At each entry, the kernel's result is the reference's. -/
theorem entry (m : (ℓ : Loc KernelIdeal.nD KernelIdeal.τ KernelIdeal.sig) → Buf (Elt Ideal) ℓ)
    (h : Pre_KernelIdeal_finite m) (c : Dev KernelIdeal.nD) (sim : FVec Ideal ReferenceIdeal.S4096x16 .f32)
    (b : Fin 2) (s : Fin 2048) (j : Fin 1024) :
    ReferenceIdeal.Stages.fuse
        (ReferenceIdeal.Stages.query (m ((c.tc : Thread KernelIdeal.nD KernelIdeal.τ).loc KernelIdeal.main_arg0))
          (m ((c.tc : Thread KernelIdeal.nD KernelIdeal.τ).loc KernelIdeal.main_arg1))
          (m ((c.tc : Thread KernelIdeal.nD KernelIdeal.τ).loc KernelIdeal.main_arg2)))
        (ReferenceIdeal.Stages.retrieved (m ((c.tc : Thread KernelIdeal.nD KernelIdeal.τ).loc KernelIdeal.main_arg5))
          (ReferenceIdeal.Stages.order sim))
        (m ((c.tc : Thread KernelIdeal.nD KernelIdeal.τ).loc KernelIdeal.main_arg3))
        (m ((c.tc : Thread KernelIdeal.nD KernelIdeal.τ).loc KernelIdeal.main_arg4)) (ix3 b s j)
      = Pipeline.afterTail₀ KernelIdeal.cfgs (KernelIdeal.Gen.dats m) 0 (KernelIdeal.Gen.V0 m) [KernelIdeal.Gen.hostOps1]
          c KernelIdeal.main_v4 (ix3 b s j) := by
  obtain ⟨hx, hp, ht⟩ := Pre_finite.entries _ _ _ _ _ _ (h c)
  refine (ReferenceIdeal.Stages.value_apply sim _ _ _ _ _ _ b s j).trans ?_
  refine Eq.trans ?_ (KernelIdeal.Blocks.result_apply m c b s j).symm
  exact (Fusion.fused_eq_plain _ _ _ _ _ _ _ (fun d => hx b s d) hp (fun e => ht e j)).symm

/-- The two runs end with the same result. -/
theorem algebraic : algebraic_KernelIdeal_ReferenceIdeal_pre_finite := by
  intro m g m' g' h hargs
  refine ⟨fun c => Pipeline.afterTail₀ KernelIdeal.cfgs (KernelIdeal.Gen.dats m) 0 (KernelIdeal.Gen.V0 m)
    [KernelIdeal.Gen.hostOps1] c KernelIdeal.main_v4, ?_, ?_⟩
  · exact (θ_run (KernelIdeal.defs (F := Ideal)) _ _).mono (fun _ r c =>
        ⟨(r.1 c).2 KernelIdeal.main_v4 (Pipeline.mem_restRefs_of KernelIdeal.main_v4 (by decide) (by decide)), r.2 c⟩)
      (θ_run_and (KernelIdeal.Gen.run_main (F := Ideal) m g) (KernelIdeal.Gen.unchanged m g))
  · refine (θ_run (ReferenceIdeal.defs (F := Ideal)) _ _).mono (fun _ r c => ⟨(r c).1.trans ?_, (r c).2⟩)
      (ReferenceIdeal.Value.run (F := Ideal) m' g')
    obtain ⟨sim, hres⟩ := ReferenceIdeal.Stages.result_eq m' c
    obtain ⟨h0, h1, h2, h3, h4, h5⟩ := hargs c
    refine hres.trans ?_
    rw [h0, h1, h2, h3, h4, h5]
    funext i
    rw [eq_ix3 i]
    exact entry m h c sim _ _ _

end Cert.SameResult

end
-- ==== Proof.lean ====
/-
  The claims about the fused projection-and-fusion kernel and its reference, put together.

  Each program runs to the end with its arguments unchanged and every semaphore back at zero; the idealized kernel is the
  kernel with its floating point read as extended reals; and on inputs whose covered entries are finite, the idealized
  kernel and the reference end with the same result.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.SameResult
public import Idealize.ShloMosaic.Adequacy
public import Idealize.ShloMosaic.Init

@[expose] public section

noncomputable section

namespace Cert.Proof

open Idealize.ShloMosaic Idealize.SL.Sem

/-- The reference runs, leaves its arguments as they were, and uses no semaphore. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    Cert.SameResult.algebraic⟩

end Cert.Proof

end
